-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1280x30x19x19 : Shape := ⟨4, ![1280, 30, 19, 19]⟩
abbrev S64x20x250 : Shape := ⟨3, ![64, 20, 250]⟩
abbrev S1x1x30x1280 : Shape := ⟨4, ![1, 1, 30, 1280]⟩
abbrev S19x19x30x1280 : Shape := ⟨4, ![19, 19, 30, 1280]⟩
abbrev S1x1 : Shape := ⟨2, ![1, 1]⟩
abbrev S1x19x30x1280 : Shape := ⟨4, ![1, 19, 30, 1280]⟩
abbrev S1x1x19x30x1280 : Shape := ⟨5, ![1, 1, 19, 30, 1280]⟩
abbrev S1 : Shape := ⟨1, ![1]⟩
abbrev S1x1x1x1x1 : Shape := ⟨5, ![1, 1, 1, 1, 1]⟩
abbrev S_ : Shape := ⟨0, ![]⟩

abbrev nBuf : Space → Nat
  | .hbm => 10
  | .vmem => 5
  | .smem => 1
  | _ => 0

abbrev bufTy : (tb : Table) → Fin (tcTables nBuf tb) → BufTy
  | .hbm, ⟨0, _⟩ => ⟨S1280x30x19x19, .f32⟩
  | .hbm, ⟨1, _⟩ => ⟨S64x20x250, .f32⟩
  | .hbm, ⟨2, _⟩ => ⟨S1x1x30x1280, .f32⟩
  | .hbm, ⟨3, _⟩ => ⟨S1x1x30x1280, .f32⟩
  | .hbm, ⟨4, _⟩ => ⟨S1x1x30x1280, .f32⟩
  | .hbm, ⟨5, _⟩ => ⟨S19x19x30x1280, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S1x19x30x1280, .f32⟩
  | .local _ .vmem, ⟨1, _⟩ => ⟨S1x19x30x1280, .f32⟩
  | .local _ .vmem, ⟨2, _⟩ => ⟨S1x1x30x1280, .f32⟩
  | .local _ .vmem, ⟨3, _⟩ => ⟨S1x1x30x1280, .f32⟩
  | .local _ .vmem, ⟨4, _⟩ => ⟨S1x1x30x1280, .f32⟩
  | .local _ .smem, ⟨0, _⟩ => ⟨S1x1, .f32⟩
  | _, _ => ⟨S1280x30x19x19, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_cst_1 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5

abbrev nD : Nat := 1
abbrev τ : Topo := Topo.v7x

variable {F : FTy → Type} [FloatOps F]

abbrev grid0 : Pipeline.Grid := ⟨1, ![19], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x19x30x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x30x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x30x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x30x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S1280x30x19x19 : Shape := ⟨4, ![1280, 30, 19, 19]⟩
abbrev S64x20x250 : Shape := ⟨3, ![64, 20, 250]⟩
abbrev S1280x5x6x19x19 : Shape := ⟨5, ![1280, 5, 6, 19, 19]⟩
abbrev S1280x5x1x19x19 : Shape := ⟨5, ![1280, 5, 1, 19, 19]⟩
abbrev S64x20x1805 : Shape := ⟨3, ![64, 20, 1805]⟩
abbrev S64x1805x20 : Shape := ⟨3, ![64, 1805, 20]⟩
abbrev S115520x20 : Shape := ⟨2, ![115520, 20]⟩
abbrev S1280x250 : Shape := ⟨2, ![1280, 250]⟩
abbrev S1280x5x19x19 : Shape := ⟨4, ![1280, 5, 19, 19]⟩
abbrev S_ : Shape := ⟨0, ![]⟩

abbrev nBuf : Space → Nat
  | .hbm => 122
  | .vmem => 0
  | .smem => 0
  | _ => 0

abbrev bufTy : (tb : Table) → Fin (tcTables nBuf tb) → BufTy
  | .hbm, ⟨0, _⟩ => ⟨S1280x30x19x19, .f32⟩
  | .hbm, ⟨1, _⟩ => ⟨S64x20x250, .f32⟩
  | .hbm, ⟨2, _⟩ => ⟨S1280x5x6x19x19, .f32⟩
  | .hbm, ⟨3, _⟩ => ⟨S1280x5x1x19x19, .f32⟩
  | .hbm, ⟨4, _⟩ => ⟨S64x20x1805, .f32⟩
  | .hbm, ⟨5, _⟩ => ⟨S64x1805x20, .f32⟩
  | .hbm, ⟨6, _⟩ => ⟨S115520x20, .f32⟩
  | .hbm, ⟨7, _⟩ => ⟨S1280x250, .f32⟩
  | .hbm, ⟨8, _⟩ => ⟨S1280x5x6x19x19, .f32⟩
  | .hbm, ⟨9, _⟩ => ⟨S1280x5x1x19x19, .f32⟩
  | .hbm, ⟨10, _⟩ => ⟨S1280x5x19x19, .f32⟩
  | .hbm, ⟨11, _⟩ => ⟨S1280x5x19x19, .f32⟩
  | .hbm, ⟨12, _⟩ => ⟨S1280x5x19x19, .f32⟩
  | .hbm, ⟨13, _⟩ => ⟨S_, .f32⟩
  | .hbm, ⟨14, _⟩ => ⟨S1280x5x19x19, .f32⟩
  | .hbm, ⟨15, _⟩ => ⟨S1280x5x19x19, .f32⟩
  | .hbm, ⟨16, _⟩ => ⟨S_, .f32⟩
  | .hbm, ⟨17, _⟩ => ⟨S1280x5x19x19, .f32⟩
  | .hbm, ⟨18, _⟩ => ⟨S1280x5x19x19, .f32⟩
  | .hbm, ⟨19, _⟩ => ⟨S1280x5x1x19x19, .f32⟩
  | .hbm, ⟨20, _⟩ => ⟨S1280x5x19x19, .f32⟩
  | .hbm, ⟨21, _⟩ => ⟨S1280x5x19x19, .f32⟩
  | .hbm, ⟨22, _⟩ => ⟨S1280x5x19x19, .f32⟩
  | .hbm, ⟨23, _⟩ => ⟨S_, .f32⟩
  | .hbm, ⟨24, _⟩ => ⟨S1280x5x19x19, .f32⟩
  | .hbm, ⟨25, _⟩ => ⟨S1280x5x19x19, .f32⟩
  | .hbm, ⟨26, _⟩ => ⟨S_, .f32⟩
  | .hbm, ⟨27, _⟩ => ⟨S1280x5x19x19, .f32⟩
  | .hbm, ⟨28, _⟩ => ⟨S1280x5x19x19, .f32⟩
  | .hbm, ⟨29, _⟩ => ⟨S1280x5x1x19x19, .f32⟩
  | .hbm, ⟨30, _⟩ => ⟨S1280x5x19x19, .f32⟩
  | .hbm, ⟨31, _⟩ => ⟨S1280x5x1x19x19, .f32⟩
  | .hbm, ⟨32, _⟩ => ⟨S1280x5x19x19, .f32⟩
  | .hbm, ⟨33, _⟩ => ⟨S1280x5x1x19x19, .f32⟩
  | .hbm, ⟨34, _⟩ => ⟨S1280x5x19x19, .f32⟩
  | .hbm, ⟨35, _⟩ => ⟨S1280x5x19x19, .f32⟩
  | .hbm, ⟨36, _⟩ => ⟨S1280x5x19x19, .f32⟩
  | .hbm, ⟨37, _⟩ => ⟨S_, .f32⟩
  | .hbm, ⟨38, _⟩ => ⟨S1280x5x19x19, .f32⟩
  | .hbm, ⟨39, _⟩ => ⟨S1280x5x19x19, .f32⟩
  | .hbm, ⟨40, _⟩ => ⟨S_, .f32⟩
  | .hbm, ⟨41, _⟩ => ⟨S1280x5x19x19, .f32⟩
  | .hbm, ⟨42, _⟩ => ⟨S1280x5x19x19, .f32⟩
  | .hbm, ⟨43, _⟩ => ⟨S_, .f32⟩
  | .hbm, ⟨44, _⟩ => ⟨S1280x5x19x19, .f32⟩
  | .hbm, ⟨45, _⟩ => ⟨S_, .f32⟩
  | .hbm, ⟨46, _⟩ => ⟨S1280x5x19x19, .f32⟩
  | .hbm, ⟨47, _⟩ => ⟨S1280x5x19x19, .f32⟩
  | .hbm, ⟨48, _⟩ => ⟨S_, .f32⟩
  | .hbm, ⟨49, _⟩ => ⟨S1280x5x19x19, .f32⟩
  | .hbm, ⟨50, _⟩ => ⟨S_, .f32⟩
  | .hbm, ⟨51, _⟩ => ⟨S1280x5x19x19, .f32⟩
  | .hbm, ⟨52, _⟩ => ⟨S_, .f32⟩
  | .hbm, ⟨53, _⟩ => ⟨S1280x5x19x19, .f32⟩
  | .hbm, ⟨54, _⟩ => ⟨S_, .f32⟩
  | .hbm, ⟨55, _⟩ => ⟨S1280x5x19x19, .f32⟩
  | .hbm, ⟨56, _⟩ => ⟨S_, .f32⟩
  | .hbm, ⟨57, _⟩ => ⟨S1280x5x19x19, .f32⟩
  | .hbm, ⟨58, _⟩ => ⟨S1280x5x19x19, .f32⟩
  | .hbm, ⟨59, _⟩ => ⟨S1280x5x19x19, .f32⟩
  | .hbm, ⟨60, _⟩ => ⟨S1280x5x19x19, .f32⟩
  | .hbm, ⟨61, _⟩ => ⟨S1280x5x19x19, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S1280x5x19x19, .f32⟩
  | .hbm, ⟨69, _⟩ => ⟨S1280x5x19x19, .f32⟩
  | .hbm, ⟨70, _⟩ => ⟨S1280x5x19x19, .f32⟩
  | .hbm, ⟨71, _⟩ => ⟨S1280x5x19x19, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S1280x5x19x19, .f32⟩
  | .hbm, ⟨79, _⟩ => ⟨S1280x5x19x19, .f32⟩
  | .hbm, ⟨80, _⟩ => ⟨S1280x5x19x19, .f32⟩
  | .hbm, ⟨81, _⟩ => ⟨S1280x5x19x19, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S1280x5x19x19, .f32⟩
  | .hbm, ⟨89, _⟩ => ⟨S1280x5x19x19, .f32⟩
  | .hbm, ⟨90, _⟩ => ⟨S1280x5x19x19, .f32⟩
  | .hbm, ⟨91, _⟩ => ⟨S1280x5x19x19, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S1280x5x19x19, .f32⟩
  | .hbm, ⟨99, _⟩ => ⟨S1280x5x19x19, .f32⟩
  | .hbm, ⟨100, _⟩ => ⟨S1280x5x19x19, .f32⟩
  | .hbm, ⟨101, _⟩ => ⟨S1280x5x19x19, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | _, _ => ⟨S1280x30x19x19, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_3 : Ref sig .tc := ⟨.hbm, 37, rfl⟩
abbrev main_v31 : Ref sig .tc := ⟨.hbm, 38, rfl⟩
abbrev main_v32 : Ref sig .tc := ⟨.hbm, 39, rfl⟩
abbrev main_cst_4 : Ref sig .tc := ⟨.hbm, 40, rfl⟩
abbrev main_v33 : Ref sig .tc := ⟨.hbm, 41, rfl⟩
abbrev main_v34 : Ref sig .tc := ⟨.hbm, 42, rfl⟩
abbrev main_cst_5 : Ref sig .tc := ⟨.hbm, 43, rfl⟩
abbrev main_v35 : Ref sig .tc := ⟨.hbm, 44, rfl⟩
abbrev main_cst_6 : Ref sig .tc := ⟨.hbm, 45, rfl⟩
abbrev main_v36 : Ref sig .tc := ⟨.hbm, 46, rfl⟩
abbrev main_v37 : Ref sig .tc := ⟨.hbm, 47, rfl⟩
abbrev main_cst_7 : Ref sig .tc := ⟨.hbm, 48, rfl⟩
abbrev main_v38 : Ref sig .tc := ⟨.hbm, 49, rfl⟩
abbrev main_cst_8 : Ref sig .tc := ⟨.hbm, 50, rfl⟩
abbrev main_v39 : Ref sig .tc := ⟨.hbm, 51, rfl⟩
abbrev main_cst_9 : Ref sig .tc := ⟨.hbm, 52, rfl⟩
abbrev main_v40 : Ref sig .tc := ⟨.hbm, 53, rfl⟩
abbrev main_cst_10 : Ref sig .tc := ⟨.hbm, 54, rfl⟩
abbrev main_v41 : Ref sig .tc := ⟨.hbm, 55, rfl⟩
abbrev main_cst_11 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_12 : Ref sig .tc := ⟨.hbm, 62, rfl⟩
abbrev main_v47 : Ref sig .tc := ⟨.hbm, 63, rfl⟩
abbrev main_cst_13 : Ref sig .tc := ⟨.hbm, 64, rfl⟩
abbrev main_v48 : Ref sig .tc := ⟨.hbm, 65, rfl⟩
abbrev main_cst_14 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_15 : Ref sig .tc := ⟨.hbm, 72, rfl⟩
abbrev main_v54 : Ref sig .tc := ⟨.hbm, 73, rfl⟩
abbrev main_cst_16 : Ref sig .tc := ⟨.hbm, 74, rfl⟩
abbrev main_v55 : Ref sig .tc := ⟨.hbm, 75, rfl⟩
abbrev main_cst_17 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_18 : Ref sig .tc := ⟨.hbm, 82, rfl⟩
abbrev main_v61 : Ref sig .tc := ⟨.hbm, 83, rfl⟩
abbrev main_cst_19 : Ref sig .tc := ⟨.hbm, 84, rfl⟩
abbrev main_v62 : Ref sig .tc := ⟨.hbm, 85, rfl⟩
abbrev main_cst_20 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_21 : Ref sig .tc := ⟨.hbm, 92, rfl⟩
abbrev main_v68 : Ref sig .tc := ⟨.hbm, 93, rfl⟩
abbrev main_cst_22 : Ref sig .tc := ⟨.hbm, 94, rfl⟩
abbrev main_v69 : Ref sig .tc := ⟨.hbm, 95, rfl⟩
abbrev main_cst_23 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_24 : Ref sig .tc := ⟨.hbm, 102, rfl⟩
abbrev main_v75 : Ref sig .tc := ⟨.hbm, 103, rfl⟩
abbrev main_cst_25 : Ref sig .tc := ⟨.hbm, 104, rfl⟩
abbrev main_v76 : Ref sig .tc := ⟨.hbm, 105, rfl⟩
abbrev main_cst_26 : Ref sig .tc := ⟨.hbm, 106, rfl⟩
abbrev main_v77 : Ref sig .tc := ⟨.hbm, 107, rfl⟩
abbrev main_cst_27 : Ref sig .tc := ⟨.hbm, 108, rfl⟩
abbrev main_v78 : Ref sig .tc := ⟨.hbm, 109, rfl⟩
abbrev main_cst_28 : Ref sig .tc := ⟨.hbm, 110, rfl⟩
abbrev main_v79 : Ref sig .tc := ⟨.hbm, 111, rfl⟩
abbrev main_cst_29 : Ref sig .tc := ⟨.hbm, 112, rfl⟩
abbrev main_v80 : Ref sig .tc := ⟨.hbm, 113, rfl⟩
abbrev main_v81 : Ref sig .tc := ⟨.hbm, 114, rfl⟩
abbrev main_cst_30 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]
-- ==== Proof.Elem.lean ====
/- What one element contributes to the loss, over the extended reals: the reference's five kinds of
   term, and the one formula through which the kernel computes all of them. -/
module

public import Idealize.ShloMosaic.PureOps.Ideal
public import Idealize.ShloMosaic.PureOps.Ideal.Laws
public import Idealize.ShloMosaic.Lib.IdealHost

@[expose] public section

noncomputable section

namespace Cert.RegionLoss

open Idealize.ShloMosaic

/-- One half, as an extended real. -/
abbrev half : EReal := ((1 / 2 : ℝ) : EReal)

/-- The logistic function as the reference writes it. -/
def logistic (x : EReal) : EReal := Ideal.div 1 (1 + Ideal.exp (-x))

/-- The word of 0.5 denotes one half. -/
theorem ofBits_half : Ideal.ofBits .f32 0x3F000000#32 = half := by
  simp [Ideal.ofBits, Ideal.ieee, half]; rw [← EReal.coe_mul]; congr 1; norm_num

/-- The word of 0.25 denotes one quarter. -/
theorem ofBits_quarter : Ideal.ofBits .f32 0x3E800000#32 = ((1 / 4 : ℝ) : EReal) := by
  simp [Ideal.ofBits, Ideal.ieee]; rw [← EReal.coe_mul]; congr 1; norm_num

/-- The word of 2 denotes two. -/
theorem ofBits_two : Ideal.ofBits .f32 0x40000000#32 = ((2 : ℝ) : EReal) := by
  simp [Ideal.ofBits, Ideal.ieee]; rw [← EReal.coe_mul]; congr 1; norm_num

/-- The word of 1 denotes one. -/
theorem ofBits_one : Ideal.ofBits .f32 0x3F800000#32 = ((1 : ℝ) : EReal) :=
  Ideal.ofBits_one_f32

/-- Over the reals, the hyperbolic tangent of `r / 2` is twice the logistic function of `r`, less one. -/
theorem real_logistic (r : ℝ) : (1 + Real.exp (-r))⁻¹ = (Real.tanh (r * (1 / 2)) + 1) / 2 := by
  have ha : 0 < Real.exp (r * (1 / 2)) := Real.exp_pos _
  have hb : Real.exp (-(r * (1 / 2))) = (Real.exp (r * (1 / 2)))⁻¹ := Real.exp_neg _
  have hr : Real.exp (-r) = (Real.exp (r * (1 / 2)))⁻¹ * (Real.exp (r * (1 / 2)))⁻¹ := by
    rw [← hb, ← Real.exp_add]; congr 1; ring
  rw [Real.tanh_eq_sinh_div_cosh, Real.sinh_eq, Real.cosh_eq, hr, hb]
  generalize Real.exp (r * (1 / 2)) = a at ha
  field_simp
  ring

/-- At every extended real `x` the hyperbolic tangent of half of `x` is a real `u`, and the logistic function of
    `x` is `(u + 1) / 2`. -/
theorem logistic_tanh (x : EReal) :
    ∃ u : ℝ, Ideal.tanh (x * half) = (u : EReal) ∧ logistic x = (((u + 1) / 2 : ℝ) : EReal) := by
  induction x with
  | bot =>
    refine ⟨-1, ?_, ?_⟩
    · rw [half, EReal.bot_mul_coe_of_pos (by norm_num)]; rfl
    · have he : Ideal.exp (-(⊥ : EReal)) = ⊤ := rfl
      rw [logistic, he, show (1 : EReal) + ⊤ = ⊤ from EReal.coe_add_top 1]; simp [Ideal.div]
  | top =>
    refine ⟨1, ?_, ?_⟩
    · rw [half, EReal.top_mul_coe_of_pos (by norm_num)]; rfl
    · have he : Ideal.exp (-(⊤ : EReal)) = 0 := rfl
      rw [logistic, he]; simp [Ideal.div]
  | coe r =>
    refine ⟨Real.tanh (r * (1 / 2)), ?_, ?_⟩
    · rw [half, ← EReal.coe_mul]; rfl
    · have hpos : (0 : ℝ) < 1 + Real.exp (-r) := by positivity
      have he : (1 : EReal) + Ideal.exp (-(r : EReal)) = ((1 + Real.exp (-r) : ℝ) : EReal) := by
        rw [← EReal.coe_neg, EReal.coe_add]; rfl
      rw [logistic, he, Ideal.div, if_neg (by exact_mod_cast hpos.ne'), one_mul, ← EReal.coe_inv, real_logistic]

/-- What an element of value `v` contributes to twice the loss, by its channel's kind `t` (its position among the
    six of an anchor): 0 and 1 are the box centre, 2 and 3 its extent, 4 the confidence, and the sixth, the class
    score, contributes nothing. -/
def term (t : ℕ) (v : EReal) : EReal :=
  if t = 0 ∨ t = 1 then (logistic v - half) * (logistic v - half)
  else if t = 2 ∨ t = 3 then v * v
  else if t = 4 then logistic v * logistic v
  else 0

/-- A product of an extended real with itself is not negative. -/
theorem self_mul_nonneg (v : EReal) : 0 ≤ v * v := by
  rcases le_total 0 v with h | h
  · exact mul_nonneg h h
  · have h' : 0 ≤ -v := by simpa using EReal.neg_le_neg_iff.mpr h
    simpa using mul_nonneg h' h'

/-- No element's contribution is negative. -/
theorem term_nonneg (t : ℕ) (v : EReal) : 0 ≤ term t v := by
  unfold term
  split_ifs <;> first | exact self_mul_nonneg _ | exact le_rfl

/-- The word that the first plane holds at a channel of kind `t`: a quarter where a logistic function is squared. -/
def wordP (t : ℕ) : BitVec 32 := if t = 0 ∨ t = 1 ∨ t = 4 then 0x3E800000#32 else 0x00000000#32
/-- The word that the second plane holds at a channel of kind `t`: one at the confidence. -/
def wordQ (t : ℕ) : BitVec 32 := if t = 4 then 0x3F800000#32 else 0x00000000#32
/-- The word that the third plane holds at a channel of kind `t`: one at the box's extent. -/
def wordC (t : ℕ) : BitVec 32 := if t = 2 ∨ t = 3 then 0x3F800000#32 else 0x00000000#32

/-- The kernel's formula for one element of value `v`, with the three planes' values there. -/
def formula (p q c v : EReal) : EReal :=
  p * ((Ideal.tanh (v * half) + q) * (Ideal.tanh (v * half) + q)) + c * (v * v)

/-- With the planes' values at a channel of kind `t`, the kernel's formula is that kind's contribution. -/
theorem formula_eq_term (t : ℕ) (v : EReal) :
    formula (Ideal.ofBits .f32 (wordP t)) (Ideal.ofBits .f32 (wordQ t)) (Ideal.ofBits .f32 (wordC t)) v = term t v := by
  obtain ⟨u, hu, hs⟩ := logistic_tanh v
  have hz : Ideal.ofBits .f32 0x00000000#32 = 0 := Ideal.ofBits_zero_f32
  unfold formula
  rw [hu]
  by_cases h01 : t = 0 ∨ t = 1
  · have hP : wordP t = 0x3E800000#32 := by unfold wordP; rw [if_pos (by omega)]
    have hQ : wordQ t = 0x00000000#32 := by unfold wordQ; rw [if_neg (by omega)]
    have hC : wordC t = 0x00000000#32 := by unfold wordC; rw [if_neg (by omega)]
    rw [hP, hQ, hC, hz, ofBits_quarter, add_zero, zero_mul, add_zero, term, if_pos h01, hs, half,
      ← EReal.coe_sub, ← EReal.coe_mul, ← EReal.coe_mul, ← EReal.coe_mul]
    congr 1; ring
  by_cases h23 : t = 2 ∨ t = 3
  · have hP : wordP t = 0x00000000#32 := by unfold wordP; rw [if_neg (by omega)]
    have hC : wordC t = 0x3F800000#32 := by unfold wordC; rw [if_pos h23]
    rw [hP, hC, hz, ofBits_one, zero_mul, zero_add, EReal.coe_one, one_mul, term, if_neg h01, if_pos h23]
  by_cases h4 : t = 4
  · have hP : wordP t = 0x3E800000#32 := by unfold wordP; rw [if_pos (by omega)]
    have hQ : wordQ t = 0x3F800000#32 := by unfold wordQ; rw [if_pos h4]
    have hC : wordC t = 0x00000000#32 := by unfold wordC; rw [if_neg (by omega)]
    rw [hP, hQ, hC, hz, ofBits_quarter, ofBits_one, zero_mul, add_zero, term, if_neg h01, if_neg h23, if_pos h4, hs,
      ← EReal.coe_add, ← EReal.coe_mul, ← EReal.coe_mul, ← EReal.coe_mul]
    congr 1; ring
  · have hP : wordP t = 0x00000000#32 := by unfold wordP; rw [if_neg (by omega)]
    have hC : wordC t = 0x00000000#32 := by unfold wordC; rw [if_neg (by omega)]
    rw [hP, hC, hz, zero_mul, zero_mul, add_zero, term, if_neg h01, if_neg h23, if_neg h4]

/-- Dividing by two is multiplying by one half. -/
theorem div_two (x : EReal) : Ideal.div x ((2 : ℝ) : EReal) = x * half := by
  rw [Ideal.div, if_neg (by norm_num), ← EReal.coe_inv, half]; norm_num

/-- The square root of one is one. -/
theorem sqrt_one : Ideal.sqrt ((1 : ℝ) : EReal) = ((1 : ℝ) : EReal) := by
  show (if (1 : ℝ) < 0 then (⊥ : EReal) else (Real.sqrt 1 : EReal)) = _
  rw [if_neg (by norm_num), Real.sqrt_one]

end Cert.RegionLoss

end
-- ==== Proof.Block.lean ====
/- What the kernel's body adds to the running sum at one grid point. -/
module

public import proofs.«01_k».proof.Proof.Gen.KernelIdeal.Skeleton
public import proofs.«01_k».proof.Proof.Elem
public import Idealize.ShloMosaic.Lib.Pointwise

@[expose] public section

set_option maxRecDepth 16384

noncomputable section

namespace Cert.RegionLoss

open Idealize.ShloMosaic Cert.KernelIdeal Cert.KernelIdeal.Gen

/-- The stored word is the running sum plus the sum of the formula over the block, read at the block's element and
    at the planes' entries for its channel and batch. -/
theorem pay1_eq (x : Vec Ideal S1x19x30x1280 .f32) (q p r : Vec Ideal S1x1x30x1280 .f32) (acc : Ideal .f32) :
    k0_pay1 x q p r acc = acc + ∑ w : Fin 19, ∑ c : Fin 30, ∑ b : Fin 1280,
      formula (p (ix4 0 0 c b)) (q (ix4 0 0 c b)) (r (ix4 0 0 c b)) (x (ix4 0 w c b)) := by
  pointwise [k0_pay1]
  rw [Ideal.reduceAdd_total _ (by decide), sum_idx5]
  congr 1
  pointwise
  rw [Fin.sum_univ_one, Fin.sum_univ_one, ofBits_half]
  rfl

end Cert.RegionLoss

end
-- ==== Proof.RunOfEqual.lean ====
/- A table of 128 equal entries, read at a number's last base-128 digit. -/
module

public import Mathlib.Tactic.IntervalCases

@[expose] public section

namespace Cert.RegionLoss

set_option maxRecDepth 16384 in
/-- A match on a number's last base-128 digit whose 128 arms are the same word `a` is `a`: its last arm, which names no
    digit, is not reached. -/
theorem run_of_equal (a z : BitVec 32) (i : Nat) : (match i % 128 with
  | 0 => a | 1 => a | 2 => a | 3 => a | 4 => a | 5 => a | 6 => a | 7 => a | 8 => a | 9 => a | 10 => a | 11 => a | 12 => a | 13 => a | 14 => a | 15 => a
  | 16 => a | 17 => a | 18 => a | 19 => a | 20 => a | 21 => a | 22 => a | 23 => a | 24 => a | 25 => a | 26 => a | 27 => a | 28 => a | 29 => a | 30 => a | 31 => a
  | 32 => a | 33 => a | 34 => a | 35 => a | 36 => a | 37 => a | 38 => a | 39 => a | 40 => a | 41 => a | 42 => a | 43 => a | 44 => a | 45 => a | 46 => a | 47 => a
  | 48 => a | 49 => a | 50 => a | 51 => a | 52 => a | 53 => a | 54 => a | 55 => a | 56 => a | 57 => a | 58 => a | 59 => a | 60 => a | 61 => a | 62 => a | 63 => a
  | 64 => a | 65 => a | 66 => a | 67 => a | 68 => a | 69 => a | 70 => a | 71 => a | 72 => a | 73 => a | 74 => a | 75 => a | 76 => a | 77 => a | 78 => a | 79 => a
  | 80 => a | 81 => a | 82 => a | 83 => a | 84 => a | 85 => a | 86 => a | 87 => a | 88 => a | 89 => a | 90 => a | 91 => a | 92 => a | 93 => a | 94 => a | 95 => a
  | 96 => a | 97 => a | 98 => a | 99 => a | 100 => a | 101 => a | 102 => a | 103 => a | 104 => a | 105 => a | 106 => a | 107 => a | 108 => a | 109 => a | 110 => a | 111 => a
  | 112 => a | 113 => a | 114 => a | 115 => a | 116 => a | 117 => a | 118 => a | 119 => a | 120 => a | 121 => a | 122 => a | 123 => a | 124 => a | 125 => a | 126 => a | 127 => a
  | _ => z) = a := by
  have h : i % 128 < 128 := Nat.mod_lt _ (by decide)
  generalize i % 128 = r at h
  interval_cases r <;> rfl

end Cert.RegionLoss
-- ==== Proof.Planes.lean ====
/- What the kernel's three constant planes hold: each entry is set by its channel's kind alone. -/
module

public import proofs.«01_k».proof.KernelIdeal
public import proofs.«01_k».proof.Proof.Elem
public import proofs.«01_k».proof.Proof.RunOfEqual

@[expose] public section

noncomputable section

namespace Cert.RegionLoss

open Idealize.ShloMosaic Cert.KernelIdeal

/-- A number below `n + 1` that is not `n` is below `n`. -/
theorem lt_step {r n : Nat} (h : r < n + 1) (k : r = n → False) : r < n :=
  Nat.lt_of_le_of_ne (Nat.le_of_lt_succ h) k

set_option maxRecDepth 16384 in
set_option maxHeartbeats 8000000 in
/-- The first plane holds `wordP` of the channel's kind. -/
theorem plane0 (i : Nat) (h : i < 38400) : lit0t i = wordP (i / 1280 % 6) := by
  have h3 : i / 16384 < 3 := by omega
  unfold lit0t
  split
  · have hr : i / 128 % 128 < 128 := Nat.mod_lt _ (by decide)
    unfold lit0t1_0
    split
    all_goals first
      | refine (run_of_equal _ _ i).trans ?_
        unfold wordP
        first | rw [if_pos (by omega)] | rw [if_neg (by omega)]
      | exfalso
        iterate 128 replace hr := lt_step hr (by assumption)
        exact absurd hr (Nat.not_lt_zero _)
  · have hr : i / 128 % 128 < 128 := Nat.mod_lt _ (by decide)
    unfold lit0t1_1
    split
    all_goals first
      | refine (run_of_equal _ _ i).trans ?_
        unfold wordP
        first | rw [if_pos (by omega)] | rw [if_neg (by omega)]
      | exfalso
        iterate 128 replace hr := lt_step hr (by assumption)
        exact absurd hr (Nat.not_lt_zero _)
  · have hr : i / 128 % 128 < 44 := by omega
    unfold lit0t1_2
    split
    all_goals first
      | refine (run_of_equal _ _ i).trans ?_
        unfold wordP
        first | rw [if_pos (by omega)] | rw [if_neg (by omega)]
      | exfalso
        iterate 44 replace hr := lt_step hr (by assumption)
        exact absurd hr (Nat.not_lt_zero _)
  · exfalso
    iterate 3 replace h3 := lt_step h3 (by assumption)
    exact absurd h3 (Nat.not_lt_zero _)

set_option maxRecDepth 16384 in
set_option maxHeartbeats 8000000 in
/-- The second plane holds `wordQ` of the channel's kind. -/
theorem plane1 (i : Nat) (h : i < 38400) : lit1t i = wordQ (i / 1280 % 6) := by
  have h3 : i / 16384 < 3 := by omega
  unfold lit1t
  split
  · have hr : i / 128 % 128 < 128 := Nat.mod_lt _ (by decide)
    unfold lit1t1_0
    split
    all_goals first
      | refine (run_of_equal _ _ i).trans ?_
        unfold wordQ
        first | rw [if_pos (by omega)] | rw [if_neg (by omega)]
      | exfalso
        iterate 128 replace hr := lt_step hr (by assumption)
        exact absurd hr (Nat.not_lt_zero _)
  · have hr : i / 128 % 128 < 128 := Nat.mod_lt _ (by decide)
    unfold lit1t1_1
    split
    all_goals first
      | refine (run_of_equal _ _ i).trans ?_
        unfold wordQ
        first | rw [if_pos (by omega)] | rw [if_neg (by omega)]
      | exfalso
        iterate 128 replace hr := lt_step hr (by assumption)
        exact absurd hr (Nat.not_lt_zero _)
  · have hr : i / 128 % 128 < 44 := by omega
    unfold lit1t1_2
    split
    all_goals first
      | refine (run_of_equal _ _ i).trans ?_
        unfold wordQ
        first | rw [if_pos (by omega)] | rw [if_neg (by omega)]
      | exfalso
        iterate 44 replace hr := lt_step hr (by assumption)
        exact absurd hr (Nat.not_lt_zero _)
  · exfalso
    iterate 3 replace h3 := lt_step h3 (by assumption)
    exact absurd h3 (Nat.not_lt_zero _)

set_option maxRecDepth 16384 in
set_option maxHeartbeats 8000000 in
/-- The third plane holds `wordC` of the channel's kind. -/
theorem plane2 (i : Nat) (h : i < 38400) : lit2t i = wordC (i / 1280 % 6) := by
  have h3 : i / 16384 < 3 := by omega
  unfold lit2t
  split
  · have hr : i / 128 % 128 < 128 := Nat.mod_lt _ (by decide)
    unfold lit2t1_0
    split
    all_goals first
      | refine (run_of_equal _ _ i).trans ?_
        unfold wordC
        first | rw [if_pos (by omega)] | rw [if_neg (by omega)]
      | exfalso
        iterate 128 replace hr := lt_step hr (by assumption)
        exact absurd hr (Nat.not_lt_zero _)
  · have hr : i / 128 % 128 < 128 := Nat.mod_lt _ (by decide)
    unfold lit2t1_1
    split
    all_goals first
      | refine (run_of_equal _ _ i).trans ?_
        unfold wordC
        first | rw [if_pos (by omega)] | rw [if_neg (by omega)]
      | exfalso
        iterate 128 replace hr := lt_step hr (by assumption)
        exact absurd hr (Nat.not_lt_zero _)
  · have hr : i / 128 % 128 < 44 := by omega
    unfold lit2t1_2
    split
    all_goals first
      | refine (run_of_equal _ _ i).trans ?_
        unfold wordC
        first | rw [if_pos (by omega)] | rw [if_neg (by omega)]
      | exfalso
        iterate 44 replace hr := lt_step hr (by assumption)
        exact absurd hr (Nat.not_lt_zero _)
  · exfalso
    iterate 3 replace h3 := lt_step h3 (by assumption)
    exact absurd h3 (Nat.not_lt_zero _)

end Cert.RegionLoss

end
-- ==== Proof.Sums.lean ====
/- The sum of every element's contribution, over the extended reals: how it splits by the channel's kind. -/
module

public import proofs.«01_k».proof.Proof.Elem
public import Mathlib.Algebra.BigOperators.Fin

@[expose] public section

noncomputable section

namespace Cert.RegionLoss

open Idealize.ShloMosaic

/-- The channel of kind `t` at anchor `a`. -/
abbrev chan (a : Fin 5) (t : Fin 6) : Fin 30 := ⟨6 * a.val + t.val, by omega⟩

/-- A sum over the thirty channels is the sum over the six kinds of the sums over the five anchors. -/
theorem sum_chan {M : Type} [AddCommMonoid M] (f : Fin 30 → M) :
    ∑ c, f c = ∑ t : Fin 6, ∑ a : Fin 5, f (chan a t) := by
  rw [Finset.sum_comm, ← Fintype.sum_prod_type' (f := fun (a : Fin 5) (t : Fin 6) => f (chan a t)),
    ← Equiv.sum_comp (finProdFinEquiv (m := 5) (n := 6)) f]
  refine Finset.sum_congr rfl fun p _ => congrArg f (Fin.ext ?_)
  show p.2.val + 6 * p.1.val = 6 * p.1.val + p.2.val
  omega

/-- The sum of the contributions of the channels of kind `t`, in the reference's order of the axes. -/
def kindSum (X : Fin 1280 → Fin 30 → Fin 19 → Fin 19 → EReal) (t : Fin 6) : EReal :=
  ∑ b : Fin 1280, ∑ a : Fin 5, ∑ h : Fin 19, ∑ w : Fin 19, term t.val (X b (chan a t) h w)

/-- The sum of every element's contribution, in the kernel's order of the axes. -/
def total (X : Fin 1280 → Fin 30 → Fin 19 → Fin 19 → EReal) : EReal :=
  ∑ h : Fin 19, ∑ w : Fin 19, ∑ c : Fin 30, ∑ b : Fin 1280, term (c.val % 6) (X b c h w)

/-- The sum of the contributions of a kind is not negative. -/
theorem kindSum_nonneg (X : Fin 1280 → Fin 30 → Fin 19 → Fin 19 → EReal) (t : Fin 6) : 0 ≤ kindSum X t :=
  Finset.sum_nonneg fun _ _ => Finset.sum_nonneg fun _ _ => Finset.sum_nonneg fun _ _ =>
    Finset.sum_nonneg fun _ _ => term_nonneg _ _

/-- The kernel's sum is the sum of the kinds' sums. -/
theorem total_eq_kinds (X : Fin 1280 → Fin 30 → Fin 19 → Fin 19 → EReal) : total X = ∑ t : Fin 6, kindSum X t := by
  unfold total kindSum
  have h1 : ∀ h w : Fin 19, ∑ c : Fin 30, ∑ b : Fin 1280, term (c.val % 6) (X b c h w)
      = ∑ t : Fin 6, ∑ b : Fin 1280, ∑ a : Fin 5, term t.val (X b (chan a t) h w) := by
    intro h w
    rw [sum_chan]
    refine Finset.sum_congr rfl fun t _ => ?_
    rw [Finset.sum_comm]
    refine Finset.sum_congr rfl fun b _ => Finset.sum_congr rfl fun a _ => ?_
    congr 1
    show (6 * a.val + t.val) % 6 = t.val
    omega
  simp only [h1]
  have h2 : ∀ h : Fin 19, ∑ w : Fin 19, ∑ t : Fin 6, ∑ b : Fin 1280, ∑ a : Fin 5, term t.val (X b (chan a t) h w)
      = ∑ t : Fin 6, ∑ b : Fin 1280, ∑ a : Fin 5, ∑ w : Fin 19, term t.val (X b (chan a t) h w) := by
    intro h
    rw [Finset.sum_comm]
    refine Finset.sum_congr rfl fun t _ => ?_
    rw [Finset.sum_comm]
    exact Finset.sum_congr rfl fun b _ => Finset.sum_comm
  simp only [h2]
  rw [Finset.sum_comm]
  refine Finset.sum_congr rfl fun t _ => ?_
  rw [Finset.sum_comm]
  exact Finset.sum_congr rfl fun b _ => Finset.sum_comm

/-- The sixth kind contributes nothing. -/
theorem kindSum_five (X : Fin 1280 → Fin 30 → Fin 19 → Fin 19 → EReal) : kindSum X 5 = 0 :=
  Finset.sum_eq_zero fun _ _ => Finset.sum_eq_zero fun _ _ => Finset.sum_eq_zero fun _ _ =>
    Finset.sum_eq_zero fun _ _ => by simp [term]

/-- Half of the kernel's sum is the sum of the halves of the five kinds' sums, added in the reference's order. -/
theorem total_half (X : Fin 1280 → Fin 30 → Fin 19 → Fin 19 → EReal) :
    total X * half = kindSum X 0 * half + kindSum X 1 * half + kindSum X 2 * half + kindSum X 3 * half
      + kindSum X 4 * half := by
  have n := kindSum_nonneg X
  rw [total_eq_kinds, Fin.sum_univ_six, kindSum_five, add_zero,
    EReal.right_distrib_of_nonneg (add_nonneg (add_nonneg (add_nonneg (n 0) (n 1)) (n 2)) (n 3)) (n 4),
    EReal.right_distrib_of_nonneg (add_nonneg (add_nonneg (n 0) (n 1)) (n 2)) (n 3),
    EReal.right_distrib_of_nonneg (add_nonneg (n 0) (n 1)) (n 2), EReal.right_distrib_of_nonneg (n 0) (n 1)]

end Cert.RegionLoss

end
-- ==== Proof.KernelValue.lean ====
/- What the kernel's one output word holds after the grid. -/
module

public import proofs.«01_k».proof.Proof.Block
public import proofs.«01_k».proof.Proof.Planes
public import proofs.«01_k».proof.Proof.Sums
public import proofs.«01_k».proof.Proof.Gen.KernelIdeal.Frame
public import Idealize.ShloMosaic.Lib.Pipeline.ValueKit
public import Idealize.ShloMosaic.Lib.Claim
public import Idealize.ShloMosaic.Lib.StableHlo.RunRead

@[expose] public section

set_option maxRecDepth 16384

noncomputable section

namespace Cert.RegionLoss

open Idealize.ShloMosaic Idealize.SL.Sem Cert.KernelIdeal Cert.KernelIdeal.Gen

variable (m : (ℓ : Loc nD τ sig) → Buf (Elt Ideal) ℓ)

/-- What the grid's point `t` adds to the running sum: the formula summed over the point's block. -/
def blockSum (c : Dev nD) (t : Fin cfg0.N) : EReal :=
  ∑ w : Fin 19, ∑ k : Fin 30, ∑ b : Fin 1280,
    formula ((iblk m c 1 t : Vec Ideal S1x1x30x1280 .f32) (ix4 0 0 k b))
      ((iblk m c 2 t : Vec Ideal S1x1x30x1280 .f32) (ix4 0 0 k b))
      ((iblk m c 3 t : Vec Ideal S1x1x30x1280 .f32) (ix4 0 0 k b))
      ((iblk m c 0 t : Vec Ideal S1x19x30x1280 .f32) (ix4 0 w k b))

/-- The grid's last point. -/
def tLast : Fin cfg0.N := ⟨18, by rw [show cfg0.N = 19 from N_0]; decide⟩

/-- The output block has one element. -/
theorem idx_unique (i j : S1x1.Idx) : i = j :=
  funext fun a => Fin.ext (by
    have hi := (i a).isLt
    have hj := (j a).isLt
    have hs : S1x1.size a = 1 := by fin_cases a <;> rfl
    omega)

/-- After the last point the running sum is the sum of what the nineteen points add. -/
theorem outsAt_last (c : Dev nD) (j : S1x1.Idx) :
    outsAt0 m c tLast.val tLast.isLt j = ∑ t : Fin cfg0.N, blockSum m c t := by
  rw [Pipeline.eq_sum_fin_of_reset_step_apply_last (fun n h => outsAt0 m c n h) 19 (fun _ => (0 : EReal))
      (fun t _ => blockSum m c t)
      (fun t h j => by
        rw [outsAt0_A m c t h]; frame_out
        exact (pay1_eq _ _ _ _ _).trans (congrArg (· + _) Ideal.ofBits_zero_f32))
      (fun t h j => by
        rw [outsAt0_B m c t h]; frame_out
        exact (pay1_eq _ _ _ _ _).trans (congrArg (fun i => outsAt0 m c (t.val - 1) _ i + _) (idx_unique _ j)))
      (le_of_eq N_0) tLast rfl j, zero_add]

/-- The kernel's input array. -/
abbrev input (c : Dev nD) : Vec Ideal S1280x30x19x19 .f32 := m ((c.tc : Thread nD τ).loc main_arg0)

/-- The region finds the input transposed to height, width, channel, batch. -/
theorem V_main_v0 (c : Dev nD) : V m c main_v0 =
    (transpose S19x19x30x1280 [2, 3, 1, 0] (input m c)
      transposes_S1280x30x19x19_S19x19x30x1280_2_3_1_0 : Vec Ideal S19x19x30x1280 .f32) := by
  unfold V V0
  after_reads_simp

/-- The region finds the first plane's words. -/
theorem V_main_cst (c : Dev nD) : V m c main_cst =
    (fun i => Ideal.ofBits .f32 (lit0 (S1x1x30x1280.rowMajor i)) : Vec Ideal S1x1x30x1280 .f32) := by
  unfold V V0
  after_reads_simp
  rfl

/-- The region finds the second plane's words. -/
theorem V_main_cst_0 (c : Dev nD) : V m c main_cst_0 =
    (fun i => Ideal.ofBits .f32 (lit1 (S1x1x30x1280.rowMajor i)) : Vec Ideal S1x1x30x1280 .f32) := by
  unfold V V0
  after_reads_simp
  rfl

/-- The region finds the third plane's words. -/
theorem V_main_cst_1 (c : Dev nD) : V m c main_cst_1 =
    (fun i => Ideal.ofBits .f32 (lit2 (S1x1x30x1280.rowMajor i)) : Vec Ideal S1x1x30x1280 .f32) := by
  unfold V V0
  after_reads_simp
  rfl

/-- The first window's index at a point: the point's number, then zeros. -/
theorem index0 (t : Fin cfg0.N) : win0_0.index t = ![t.val, 0, 0, 0] := by
  revert t; decide +kernel

/-- The first plane's window stands at the origin. -/
theorem index1 (t : Fin cfg0.N) : win0_1.index t = ![0, 0, 0, 0] := by
  revert t; decide +kernel

/-- The second plane's window stands at the origin. -/
theorem index2 (t : Fin cfg0.N) : win0_2.index t = ![0, 0, 0, 0] := by
  revert t; decide +kernel

/-- The third plane's window stands at the origin. -/
theorem index3 (t : Fin cfg0.N) : win0_3.index t = ![0, 0, 0, 0] := by
  revert t; decide +kernel

/-- At point `t` the input's block holds the input's row `t`. -/
theorem iblk0_apply (c : Dev nD) (t : Fin cfg0.N) (w : Fin 19) (k : Fin 30) (b : Fin 1280) :
    (iblk m c 0 t : Vec Ideal S1x19x30x1280 .f32) (ix4 0 w k b)
      = input m c (ix4 b k (t.cast N_0) w) := by
  have he : (win0_0.blk t).view.emb (ix4 0 w k b : S1x19x30x1280.Idx) = (ix4 (t.cast N_0) w k b : S19x19x30x1280.Idx) := by
    blk_ext [index0 t]
    rfl
  unfold iblk
  blk_simp
  rw [he, V_main_v0]
  pointwise

/-- The row-major position of channel `k` and batch `b` in a plane. -/
theorem plane_pos (k : Fin 30) (b : Fin 1280) :
    (S1x1x30x1280.rowMajor (ix4 0 0 k b)).val / 1280 % 6 = k.val % 6 := by
  have h : (S1x1x30x1280.rowMajor (ix4 0 0 k b)).val = k.val * 1280 + b.val := by
    rw [rowMajor_val4 (d := ![1, 1, 30, 1280]) (ix4 0 0 k b) 38400 38400 1280 rfl rfl rfl]
    simp
  omega

/-- At every point the first plane's block holds, at a channel, the plane's word for the channel's kind. -/
theorem iblk1_apply (c : Dev nD) (t : Fin cfg0.N) (k : Fin 30) (b : Fin 1280) :
    (iblk m c 1 t : Vec Ideal S1x1x30x1280 .f32) (ix4 0 0 k b) = Ideal.ofBits .f32 (wordP (k.val % 6)) := by
  have he : (win0_1.blk t).view.emb (ix4 0 0 k b : S1x1x30x1280.Idx) = (ix4 0 0 k b : S1x1x30x1280.Idx) := by
    blk_ext [index1 t]
  unfold iblk
  blk_simp
  rw [he, V_main_cst, ← plane_pos k b]
  exact congrArg (Ideal.ofBits .f32) (plane0 _ (S1x1x30x1280.rowMajor (ix4 0 0 k b)).isLt)

/-- At every point the second plane's block holds, at a channel, the plane's word for the channel's kind. -/
theorem iblk2_apply (c : Dev nD) (t : Fin cfg0.N) (k : Fin 30) (b : Fin 1280) :
    (iblk m c 2 t : Vec Ideal S1x1x30x1280 .f32) (ix4 0 0 k b) = Ideal.ofBits .f32 (wordQ (k.val % 6)) := by
  have he : (win0_2.blk t).view.emb (ix4 0 0 k b : S1x1x30x1280.Idx) = (ix4 0 0 k b : S1x1x30x1280.Idx) := by
    blk_ext [index2 t]
  unfold iblk
  blk_simp
  rw [he, V_main_cst_0, ← plane_pos k b]
  exact congrArg (Ideal.ofBits .f32) (plane1 _ (S1x1x30x1280.rowMajor (ix4 0 0 k b)).isLt)

/-- At every point the third plane's block holds, at a channel, the plane's word for the channel's kind. -/
theorem iblk3_apply (c : Dev nD) (t : Fin cfg0.N) (k : Fin 30) (b : Fin 1280) :
    (iblk m c 3 t : Vec Ideal S1x1x30x1280 .f32) (ix4 0 0 k b) = Ideal.ofBits .f32 (wordC (k.val % 6)) := by
  have he : (win0_3.blk t).view.emb (ix4 0 0 k b : S1x1x30x1280.Idx) = (ix4 0 0 k b : S1x1x30x1280.Idx) := by
    blk_ext [index3 t]
  unfold iblk
  blk_simp
  rw [he, V_main_cst_1, ← plane_pos k b]
  exact congrArg (Ideal.ofBits .f32) (plane2 _ (S1x1x30x1280.rowMajor (ix4 0 0 k b)).isLt)

/-- What point `t` adds is the sum of its row's contributions. -/
theorem blockSum_eq (c : Dev nD) (t : Fin cfg0.N) :
    blockSum m c t = ∑ w : Fin 19, ∑ k : Fin 30, ∑ b : Fin 1280,
      term (k.val % 6) (input m c (ix4 b k (t.cast N_0) w)) := by
  unfold blockSum
  refine Finset.sum_congr rfl fun w _ => Finset.sum_congr rfl fun k _ => Finset.sum_congr rfl fun b _ => ?_
  rw [iblk0_apply, iblk1_apply, iblk2_apply, iblk3_apply, formula_eq_term]

/-- The sum over the points is the sum of every element's contribution. -/
theorem sum_blocks (c : Dev nD) :
    ∑ t : Fin cfg0.N, blockSum m c t = total fun b k h w => input m c (ix4 b k h w) := by
  unfold total
  rw [← Equiv.sum_comp (finCongr N_0) fun h : Fin 19 => ∑ w : Fin 19, ∑ k : Fin 30, ∑ b : Fin 1280,
    term (k.val % 6) (input m c (ix4 b k h w))]
  exact Finset.sum_congr rfl fun t _ => blockSum_eq m c t

/-- The kernel's output array ends at that sum. -/
theorem final_output (c : Dev nD) :
    (dats m 0 c).arrAt 4 cfg0.N = ((fun _ => total fun b k h w => input m c (ix4 b k h w)) : Vec Ideal S1x1 .f32) := by
  refine (dats m 0 c).arrAt_eq_of_after_last 4 tLast (by decide +kernel) _ fun j => ?_
  blk_simp
  rw [after0_4, outsAt_last, sum_blocks]

end Cert.RegionLoss

end
-- ==== Proof.KernelRun.lean ====
/- Where a run of the kernel leaves its result and its arguments. -/
module

public import proofs.«01_k».proof.Proof.KernelValue

@[expose] public section

set_option maxRecDepth 16384

noncomputable section

namespace Cert.RegionLoss

open Idealize.ShloMosaic Idealize.SL.Sem Cert.KernelIdeal Cert.KernelIdeal.Gen

variable (m : (ℓ : Loc nD τ sig) → Buf (Elt Ideal) ℓ) (ρ : Dev nD → PrngReg)

/-- After the region, the remaining lines leave half of the output word in the result. -/
theorem result_value (c : Dev nD) :
    Pipeline.afterTail₀ cfgs (dats m) 0 (V0 m) [hostOps1] c main_v3
      = ((fun _ => (total fun b k h w => input m c (ix4 b k h w)) * half) : Vec Ideal S_ .f32) := by
  unfold Pipeline.afterTail₀
  after_reads_simp
  have hw : Pipeline.withArrays (cfgs 0).spec c (V0 m c) (fun w => (dats m 0 c).arrAt w (cfgs 0).N)
      (Proc.tc.devRef main_v1)
        = ((fun _ => total fun b k h w => input m c (ix4 b k h w)) : Vec Ideal S1x1 .f32) :=
    (Pipeline.withArrays_arr spec0 winFacts0.arr_inj c (V0 m c) (fun w => (dats m 0 c).arrAt w (cfgs 0).N) 4).trans
      (final_output m c)
  rw [hw]
  funext j
  exact congrArg ((total fun b k h w => input m c (ix4 b k h w)) * ·) ofBits_half

/-- Every run of the kernel ends with half of the sum of every element's contribution in the result, and with the
    arguments unchanged. -/
theorem kernel_run : θ_run defs (onTc (τ := τ) (main (F := Ideal))) ⟨m, fun _ => 0, ρ⟩ (fun r => ∀ c : Dev nD,
    r.2.mem ((c.tc : Thread nD τ).loc main_v3)
      = ((fun _ => (total fun b k h w => input m c (ix4 b k h w)) * half) : Vec Ideal S_ .f32)
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c =>
      ⟨((h c).2 main_v3 (Pipeline.mem_restRefs_of main_v3 (by decide) (by decide))).trans (result_value m c),
        ((h c).2 main_arg0 (Pipeline.mem_restRefs_of main_arg0 (by decide) (by decide))).trans
          (W_main_arg0 m (dats m) c),
        ((h c).2 main_arg1 (Pipeline.mem_restRefs_of main_arg1 (by decide) (by decide))).trans
          (W_main_arg1 m (dats m) c)⟩)
    (run_main m ρ)

end Cert.RegionLoss

end
-- ==== Proof.ReferenceValue.lean ====
/- What the reference computes. -/
module

public import proofs.«01_k».proof.Proof.Gen.ReferenceIdeal.Run
public import proofs.«01_k».proof.Proof.Sums
public import Idealize.ShloMosaic.Lib.Pointwise
public import Idealize.ShloMosaic.Lib.Tactic.CleanTypes

@[expose] public section

set_option maxRecDepth 16384

noncomputable section

namespace Cert.RegionLoss

open Idealize.ShloMosaic Idealize.SL.Sem Cert.ReferenceIdeal Cert.ReferenceIdeal.Value

/-- The array of ones the reference builds. -/
abbrev ones : FVec Ideal S1280x5x19x19 .f32 :=
  broadcastInDim S1280x5x19x19 ![] Gen.bcast_S_S1280x5x19x19 (constant (F := Ideal) S_ .f32 0x3F800000#32)

/-- The array of zeros the reference builds. -/
abbrev zeros : FVec Ideal S1280x5x19x19 .f32 :=
  broadcastInDim S1280x5x19x19 ![] Gen.bcast_S_S1280x5x19x19 (constant (F := Ideal) S_ .f32 0x00000000#32)

/-- The array of halves the reference builds. -/
abbrev halves : FVec Ideal S1280x5x19x19 .f32 :=
  broadcastInDim S1280x5x19x19 ![] Gen.bcast_S_S1280x5x19x19 (constant (F := Ideal) S_ .f32 0x3F000000#32)

/-- The channel at position `t` of every anchor, as the reference cuts it out of the input. -/
abbrev cut (t : ℕ) (hs : S1280x5x6x19x19.Slices ![0, 0, t, 0, 0] S1280x5x1x19x19)
    (x : Vec Ideal S1280x30x19x19 .f32) : FVec Ideal S1280x5x19x19 .f32 :=
  shapeCast S1280x5x19x19
    (extractStridedSlice S1280x5x1x19x19 ![0, 0, t, 0, 0]
      (shapeCast S1280x5x6x19x19 x Gen.shapeCasts_S1280x30x19x19_S1280x5x6x19x19) hs)
    Gen.shapeCasts_S1280x5x1x19x19_S1280x5x19x19

/-- The logistic function of an array, as the reference writes it. -/
abbrev logistics (y : FVec Ideal S1280x5x19x19 .f32) : FVec Ideal S1280x5x19x19 .f32 :=
  Host.divf ones (addf ones (Host.exp (Host.negf y)))

/-- How far a box centre's channel lies from its target. -/
abbrev centreDiff (y : FVec Ideal S1280x5x19x19 .f32) : FVec Ideal S1280x5x19x19 .f32 :=
  subf (mulf (logistics y) ones) (mulf halves ones)

/-- How far a box extent's channel lies from its target. -/
abbrev extentDiff (y : FVec Ideal S1280x5x19x19 .f32) : FVec Ideal S1280x5x19x19 .f32 :=
  subf (mulf y ones) (mulf zeros ones)

/-- How far a confidence channel lies from its target. -/
abbrev confidenceDiff (y : FVec Ideal S1280x5x19x19 .f32) : FVec Ideal S1280x5x19x19 .f32 :=
  subf (mulf (logistics y) (Host.sqrt ones)) (mulf zeros (Host.sqrt ones))

/-- The cut channel's element is the input's element at that channel of the anchor. -/
theorem cut_apply (t : ℕ) (ht : t < 6) (hs : S1280x5x6x19x19.Slices ![0, 0, t, 0, 0] S1280x5x1x19x19)
    (x : Vec Ideal S1280x30x19x19 .f32) (b : Fin 1280) (a : Fin 5) (h w : Fin 19) :
    cut t hs x (ix4 b a h w) = x (ix4 b (chan a ⟨t, ht⟩) h w) := by
  pointwise [cut, chan]
  exact congrArg (fun k => x (ix4 b k h w)) (Fin.ext (by show a.val * 6 + t = 6 * a.val + t; omega))

/-- A centre difference, squared, is the centre's contribution. -/
theorem centreDiff_sq (t : ℕ) (ht : t = 0 ∨ t = 1) (y : FVec Ideal S1280x5x19x19 .f32) (b : Fin 1280) (a : Fin 5)
    (h w : Fin 19) : mulf (centreDiff y) (centreDiff y) (ix4 b a h w) = term t (y (ix4 b a h w)) := by
  rw [term, if_pos ht]
  pointwise
  rw [ofBits_half]
  rfl

/-- An extent difference, squared, is the extent's contribution. -/
theorem extentDiff_sq (t : ℕ) (ht : t = 2 ∨ t = 3) (y : FVec Ideal S1280x5x19x19 .f32) (b : Fin 1280) (a : Fin 5)
    (h w : Fin 19) : mulf (extentDiff y) (extentDiff y) (ix4 b a h w) = term t (y (ix4 b a h w)) := by
  rw [term, if_neg (by omega), if_pos ht]
  pointwise

/-- A confidence difference, squared, is the confidence's contribution. -/
theorem confidenceDiff_sq (y : FVec Ideal S1280x5x19x19 .f32) (b : Fin 1280) (a : Fin 5)
    (h w : Fin 19) : mulf (confidenceDiff y) (confidenceDiff y) (ix4 b a h w) = term 4 (y (ix4 b a h w)) := by
  rw [term, if_neg (by omega), if_neg (by omega), if_pos rfl]
  pointwise
  rw [← EReal.coe_one, sqrt_one, EReal.coe_one, mul_one, zero_mul, sub_zero]
  rfl

/-- When a square's elements are a kind's contributions at that kind's cut channel, half of the square's sum over
    the whole array is half of the kind's sum. -/
theorem half_square_sum (t : ℕ) (ht : t < 6) (hs : S1280x5x6x19x19.Slices ![0, 0, t, 0, 0] S1280x5x1x19x19)
    (x : Vec Ideal S1280x30x19x19 .f32) (q : FVec Ideal S1280x5x19x19 .f32)
    (hq : ∀ b a h w, q (ix4 b a h w) = term t (cut t hs x (ix4 b a h w))) (j : S_.Idx) :
    Ideal.div (Ideal.hostReduceAdd Gen.reducesTo_S1280x5x19x19_S_d0_1_2_3 q 0 j) (Ideal.ofBits .f32 0x40000000#32)
      = kindSum (fun b k h w => x (ix4 b k h w)) ⟨t, ht⟩ * half := by
  rw [ofBits_two, div_two, Ideal.hostReduceAdd_total _ (by decide), zero_add, sum_idx4]
  unfold kindSum
  refine congrArg (· * half) (Finset.sum_congr rfl fun b _ => Finset.sum_congr rfl fun a _ =>
    Finset.sum_congr rfl fun h _ => Finset.sum_congr rfl fun w _ => ?_)
  rw [hq, cut_apply t ht]

/-- The reference's result, at its one index, is half of the sum of every element's contribution. -/
theorem reference_value (m : (ℓ : Loc nD τ sig) → Buf (Elt Ideal) ℓ) (c : Dev nD)
    (x : Vec Ideal S1280x30x19x19 .f32) (hx : m ((c.tc : Thread nD τ).loc main_arg0) = x) (j : S_.Idx) :
    (res_out0 m c : Vec Ideal S_ .f32) j = (total fun b k h w => x (ix4 b k h w)) * half := by
  unfold res_out0 res_main_v87
  rw [hx]
  clean_types
  pointwise
  rw [total_half, mul_zero, mul_zero, add_zero, add_zero]
  refine congrArg₂ (· + ·) (congrArg₂ (· + ·) (congrArg₂ (· + ·) (congrArg₂ (· + ·) ?_ ?_) ?_) ?_) ?_
  · exact half_square_sum 0 (by decide) _ x _ (fun _ _ _ _ => centreDiff_sq 0 (.inl rfl) _ _ _ _ _) j
  · exact half_square_sum 1 (by decide) _ x _ (fun _ _ _ _ => centreDiff_sq 1 (.inr rfl) _ _ _ _ _) j
  · exact half_square_sum 2 (by decide) _ x _ (fun _ _ _ _ => extentDiff_sq 2 (.inl rfl) _ _ _ _ _) j
  · exact half_square_sum 3 (by decide) _ x _ (fun _ _ _ _ => extentDiff_sq 3 (.inr rfl) _ _ _ _ _) j
  · exact half_square_sum 4 (by decide) _ x _ (fun _ _ _ _ => confidenceDiff_sq _ _ _ _ _) j

end Cert.RegionLoss

end
-- ==== Proof.lean ====
/- The proof of the certificate's claims: each program's run with its arguments unchanged, the idealization, and the
   equality of the kernel's result with the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.ReferenceValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, leaves its arguments unchanged and ends with every counter at zero. -/
theorem reference_quiescent : Cert.quiescent_ReferenceIdeal (hReferenceIdeal := Cert.ReferenceIdeal.Gen.facts) := by
  intro m g _
  exact (θ_run _ _ _).mono (fun r h => ⟨fun c => (h c).2, sem_eq_zero_of_no_sems (by decide) r.2⟩)
    (Cert.ReferenceIdeal.Value.run m g)

/-- From equal arguments the kernel and the reference end with the same result: both are half of the sum of every
    element's contribution. -/
theorem equal_results : Cert.algebraic_KernelIdeal_ReferenceIdeal (hKernelIdeal := Cert.KernelIdeal.Gen.facts)
    (hReferenceIdeal := Cert.ReferenceIdeal.Gen.facts) := by
  intro m g m' g' _ hagree
  refine ⟨_, Cert.RegionLoss.kernel_run m g, (θ_run _ _ _).mono (fun r h c => ⟨(h c).1.trans ?_, (h c).2⟩)
    (Cert.ReferenceIdeal.Value.run m' g')⟩
  funext j
  exact Cert.RegionLoss.reference_value m' c _ (hagree c).1 j

/-- Every claim of the certificate. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_quiescent,
    trivial, equal_results⟩

end Cert.Proof

end
